-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_sentences [hPre_finite_sentences : Cert.Pre_finite_sentences.Facts] (m : (ℓ : Loc Cert.KernelIdeal.nD Cert.KernelIdeal.τ Cert.KernelIdeal.sig) → Buf (Elt Ideal) ℓ) : Prop :=
  ∀ c : Dev Cert.KernelIdeal.nD,
    (Cert.Pre_finite_sentences.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_sentences [hPre_finite_sentences : Cert.Pre_finite_sentences.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_sentences.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_sentences [hKernelIdeal : Cert.KernelIdeal.Facts] [hPre_finite_sentences : Cert.Pre_finite_sentences.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_sentences m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_sentences [hReferenceIdeal : Cert.ReferenceIdeal.Facts] [hPre_finite_sentences : Cert.Pre_finite_sentences.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_sentences m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_sentences [hKernelIdeal : Cert.KernelIdeal.Facts] [hReferenceIdeal : Cert.ReferenceIdeal.Facts] [hPre_finite_sentences : Cert.Pre_finite_sentences.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_sentences m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_sentences : Cert.Pre_finite_sentences.Facts),
    quiescent_Kernel (hKernel := hKernel)
    ∧ quiescent_KernelIdeal (hKernelIdeal := hKernelIdeal)
    ∧ quiescent_KernelIdeal_pre_finite_sentences (hKernelIdeal := hKernelIdeal) (hPre_finite_sentences := hPre_finite_sentences)
    ∧ quiescent_ReferenceIdeal (hReferenceIdeal := hReferenceIdeal)
    ∧ quiescent_ReferenceIdeal_pre_finite_sentences (hReferenceIdeal := hReferenceIdeal) (hPre_finite_sentences := hPre_finite_sentences)
    ∧ preserves_Kernel_KernelIdeal
    ∧ algebraic_KernelIdeal_ReferenceIdeal_pre_finite_sentences (hKernelIdeal := hKernelIdeal) (hReferenceIdeal := hReferenceIdeal) (hPre_finite_sentences := hPre_finite_sentences)
-- ==== Pre_finite_sentences.lean ====
abbrev S1024x20x32 : Shape := ⟨3, ![1024, 20, 32]⟩
abbrev S1024x20 : Shape := ⟨2, ![1024, 20]⟩
abbrev S1024x100x32 : Shape := ⟨3, ![1024, 100, 32]⟩
abbrev S32x32 : Shape := ⟨2, ![32, 32]⟩
abbrev S_ : Shape := ⟨0, ![]⟩

class Facts : Prop where
  bcast_S_S1024x20x32 : S_.BroadcastsInDim S1024x20x32 (![] : Fin 0 → Fin S1024x20x32.rank)

variable [Facts]

def fn {F : FTy → Type} [FloatOps F] (main_arg0 : FVec F S1024x20x32 .f32) (main_arg1 : IVec S1024x20 1) (main_arg2 : FVec F S1024x100x32 .f32) (main_arg3 : FVec F S32x32 .f32) (main_arg4 : FVec F S32x32 .f32) (main_arg5 : FVec F S32x32 .f32) : IVec S1024x20x32 1 :=
  let main_v0 : FVec F S1024x20x32 .f32 := Host.absf main_arg0
  let main_cst : FVec F S_ .f32 := constant S_ .f32 0x7F800000#32
  let main_v1 : FVec F S1024x20x32 .f32 := broadcastInDim S1024x20x32 ![] bcast_S_S1024x20x32 main_cst
  let main_v2 : IVec S1024x20x32 1 := cmpf .olt main_v0 main_v1
  main_v2
-- ==== Kernel.lean ====
abbrev S1024x20x32 : Shape := ⟨3, ![1024, 20, 32]⟩
abbrev S1024x20 : Shape := ⟨2, ![1024, 20]⟩
abbrev S1024x100x32 : Shape := ⟨3, ![1024, 100, 32]⟩
abbrev S32x32 : Shape := ⟨2, ![32, 32]⟩
abbrev S20x1024x32 : Shape := ⟨3, ![20, 1024, 32]⟩
abbrev S20x1024 : Shape := ⟨2, ![20, 1024]⟩
abbrev S20x1024x1 : Shape := ⟨3, ![20, 1024, 1]⟩
abbrev S1024x25x4x32 : Shape := ⟨4, ![1024, 25, 4, 32]⟩
abbrev S25x1024x4x32 : Shape := ⟨4, ![25, 1024, 4, 32]⟩
abbrev S25x1024x128 : Shape := ⟨3, ![25, 1024, 128]⟩
abbrev S20x128x32 : Shape := ⟨3, ![20, 128, 32]⟩
abbrev S20x128x1 : Shape := ⟨3, ![20, 128, 1]⟩
abbrev S25x128x128 : Shape := ⟨3, ![25, 128, 128]⟩
abbrev S20x128x128 : Shape := ⟨3, ![20, 128, 128]⟩
abbrev S128x128 : Shape := ⟨2, ![128, 128]⟩
abbrev S32x128 : Shape := ⟨2, ![32, 128]⟩
abbrev S2560x128 : Shape := ⟨2, ![2560, 128]⟩
abbrev S3200x128 : Shape := ⟨2, ![3200, 128]⟩
abbrev S1x128x128 : Shape := ⟨3, ![1, 128, 128]⟩
abbrev S1x128x1 : Shape := ⟨3, ![1, 128, 1]⟩
abbrev S128x1 : Shape := ⟨2, ![128, 1]⟩

abbrev nBuf : Space → Nat
  | .hbm => 17
  | .vmem => 13
  | .smem => 0
  | _ => 0

abbrev bufTy : (tb : Table) → Fin (tcTables nBuf tb) → BufTy
  | .hbm, ⟨0, _⟩ => ⟨S1024x20x32, .f32⟩
  | .hbm, ⟨1, _⟩ => ⟨S1024x20, .i1⟩
  | .hbm, ⟨2, _⟩ => ⟨S1024x100x32, .f32⟩
  | .hbm, ⟨3, _⟩ => ⟨S32x32, .f32⟩
  | .hbm, ⟨4, _⟩ => ⟨S32x32, .f32⟩
  | .hbm, ⟨5, _⟩ => ⟨S32x32, .f32⟩
  | .hbm, ⟨6, _⟩ => ⟨S20x1024x32, .f32⟩
  | .hbm, ⟨7, _⟩ => ⟨S20x1024, .i1⟩
  | .hbm, ⟨8, _⟩ => ⟨S20x1024, .f32⟩
  | .hbm, ⟨9, _⟩ => ⟨S20x1024x1, .f32⟩
  | .hbm, ⟨10, _⟩ => ⟨S1024x25x4x32, .f32⟩
  | .hbm, ⟨11, _⟩ => ⟨S25x1024x4x32, .f32⟩
  | .hbm, ⟨12, _⟩ => ⟨S25x1024x128, .f32⟩
  | .hbm, ⟨13, _⟩ => ⟨S25x1024x128, .f32⟩
  | .hbm, ⟨14, _⟩ => ⟨S25x1024x4x32, .f32⟩
  | .hbm, ⟨15, _⟩ => ⟨S1024x25x4x32, .f32⟩
  | .hbm, ⟨16, _⟩ => ⟨S1024x100x32, .f32⟩
  | .local _ .vmem, ⟨0, _⟩ => ⟨S20x128x32, .f32⟩
  | .local _ .vmem, ⟨1, _⟩ => ⟨S20x128x32, .f32⟩
  | .local _ .vmem, ⟨2, _⟩ => ⟨S20x128x1, .f32⟩
  | .local _ .vmem, ⟨3, _⟩ => ⟨S20x128x1, .f32⟩
  | .local _ .vmem, ⟨4, _⟩ => ⟨S25x128x128, .f32⟩
  | .local _ .vmem, ⟨5, _⟩ => ⟨S25x128x128, .f32⟩
  | .local _ .vmem, ⟨6, _⟩ => ⟨S32x32, .f32⟩
  | .local _ .vmem, ⟨7, _⟩ => ⟨S32x32, .f32⟩
  | .local _ .vmem, ⟨8, _⟩ => ⟨S32x32, .f32⟩
  | .local _ .vmem, ⟨9, _⟩ => ⟨S25x128x128, .f32⟩
  | .local _ .vmem, ⟨10, _⟩ => ⟨S25x128x128, .f32⟩
  | .local _ .vmem, ⟨11, _⟩ => ⟨S20x128x128, .f32⟩
  | .local _ .vmem, ⟨12, _⟩ => ⟨S20x128x128, .f32⟩
  | _, _ => ⟨S1024x20x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S20x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S25x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S25x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1024x20x32 : Shape := ⟨3, ![1024, 20, 32]⟩
abbrev S1024x20 : Shape := ⟨2, ![1024, 20]⟩
abbrev S1024x100x32 : Shape := ⟨3, ![1024, 100, 32]⟩
abbrev S32x32 : Shape := ⟨2, ![32, 32]⟩
abbrev S_ : Shape := ⟨0, ![]⟩
abbrev S20x1024x32 : Shape := ⟨3, ![20, 1024, 32]⟩
abbrev S20x1024 : Shape := ⟨2, ![20, 1024]⟩
abbrev S1x1024x32 : Shape := ⟨3, ![1, 1024, 32]⟩
abbrev S1024x32 : Shape := ⟨2, ![1024, 32]⟩
abbrev S1x1024 : Shape := ⟨2, ![1, 1024]⟩
abbrev S1024 : Shape := ⟨1, ![1024]⟩
abbrev S1024x1x32 : Shape := ⟨3, ![1024, 1, 32]⟩
abbrev S1024x100 : Shape := ⟨2, ![1024, 100]⟩
abbrev S1024x100x1 : Shape := ⟨3, ![1024, 100, 1]⟩
abbrev S1024x1x1 : Shape := ⟨3, ![1024, 1, 1]⟩

abbrev nBuf : Space → Nat
  | .hbm => 74
  | .vmem => 0
  | .smem => 0
  | _ => 0

abbrev bufTy : (tb : Table) → Fin (tcTables nBuf tb) → BufTy
  | .hbm, ⟨0, _⟩ => ⟨S1024x20x32, .f32⟩
  | .hbm, ⟨1, _⟩ => ⟨S1024x20, .i1⟩
  | .hbm, ⟨2, _⟩ => ⟨S1024x100x32, .f32⟩
  | .hbm, ⟨3, _⟩ => ⟨S32x32, .f32⟩
  | .hbm, ⟨4, _⟩ => ⟨S32x32, .f32⟩
  | .hbm, ⟨5, _⟩ => ⟨S32x32, .f32⟩
  | .hbm, ⟨6, _⟩ => ⟨S_, .f32⟩
  | .hbm, ⟨7, _⟩ => ⟨S1024x100x32, .f32⟩
  | .hbm, ⟨8, _⟩ => ⟨S20x1024x32, .f32⟩
  | .hbm, ⟨9, _⟩ => ⟨S20x1024, .i1⟩
  | .hbm, ⟨10, _⟩ => ⟨S_, .i32⟩
  | .hbm, ⟨11, _⟩ => ⟨S20x1024x32, .f32⟩
  | .hbm, ⟨12, _⟩ => ⟨S20x1024, .i1⟩
  | .hbm, ⟨13, _⟩ => ⟨S1024x100x32, .f32⟩
  | .hbm, ⟨14, _⟩ => ⟨S32x32, .f32⟩
  | .hbm, ⟨15, _⟩ => ⟨S32x32, .f32⟩
  | .hbm, ⟨16, _⟩ => ⟨S32x32, .f32⟩
  | .hbm, ⟨17, _⟩ => ⟨S_, .i32⟩
  | .hbm, ⟨18, _⟩ => ⟨S1024x100x32, .f32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S1x1024x32, .f32⟩
  | .hbm, ⟨24, _⟩ => ⟨S1024x32, .f32⟩
  | .hbm, ⟨25, _⟩ => ⟨S_, .i32⟩
  | .hbm, ⟨26, _⟩ => ⟨S1x1024, .i1⟩
  | .hbm, ⟨27, _⟩ => ⟨S1024, .i1⟩
  | .hbm, ⟨28, _⟩ => ⟨S1024x1x32, .f32⟩
  | .hbm, ⟨29, _⟩ => ⟨S1024x100x32, .f32⟩
  | .hbm, ⟨30, _⟩ => ⟨S1024x100x32, .f32⟩
  | .hbm, ⟨31, _⟩ => ⟨S1024x1x32, .f32⟩
  | .hbm, ⟨32, _⟩ => ⟨S1024x100x32, .f32⟩
  | .hbm, ⟨33, _⟩ => ⟨S1024x100x32, .f32⟩
  | .hbm, ⟨34, _⟩ => ⟨S1024x100x32, .f32⟩
  | .hbm, ⟨35, _⟩ => ⟨S_, .f32⟩
  | .hbm, ⟨36, _⟩ => ⟨S1024x100, .f32⟩
  | .hbm, ⟨37, _⟩ => ⟨S1024x100, .f32⟩
  | .hbm, ⟨38, _⟩ => ⟨S1024x100, .f32⟩
  | .hbm, ⟨39, _⟩ => ⟨S_, .f32⟩
  | .hbm, ⟨40, _⟩ => ⟨S1024x100, .f32⟩
  | .hbm, ⟨41, _⟩ => ⟨S1024x100, .f32⟩
  | .hbm, ⟨42, _⟩ => ⟨S_, .f32⟩
  | .hbm, ⟨43, _⟩ => ⟨S1024x100, .f32⟩
  | .hbm, ⟨44, _⟩ => ⟨S1024x100, .f32⟩
  | .hbm, ⟨45, _⟩ => ⟨S1024x100x32, .f32⟩
  | .hbm, ⟨46, _⟩ => ⟨S1024x100x32, .f32⟩
  | .hbm, ⟨47, _⟩ => ⟨S1024x100x32, .f32⟩
  | .hbm, ⟨48, _⟩ => ⟨S1024x32, .f32⟩
  | .hbm, ⟨49, _⟩ => ⟨S1024x1x32, .f32⟩
  | .hbm, ⟨50, _⟩ => ⟨S1024x100x32, .f32⟩
  | .hbm, ⟨51, _⟩ => ⟨S1024x100x32, .f32⟩
  | .hbm, ⟨52, _⟩ => ⟨S_, .f32⟩
  | .hbm, ⟨53, _⟩ => ⟨S1024x100x32, .f32⟩
  | .hbm, ⟨54, _⟩ => ⟨S1024x100x32, .f32⟩
  | .hbm, ⟨55, _⟩ => ⟨S1024x100x1, .f32⟩
  | .hbm, ⟨56, _⟩ => ⟨S1024x100x32, .f32⟩
  | .hbm, ⟨57, _⟩ => ⟨S1024x100x32, .f32⟩
  | .hbm, ⟨58, _⟩ => ⟨S1024x100x32, .f32⟩
  | .hbm, ⟨59, _⟩ => ⟨S1024x100x32, .f32⟩
  | .hbm, ⟨60, _⟩ => ⟨S_, .f32⟩
  | .hbm, ⟨61, _⟩ => ⟨S1024x100, .f32⟩
  | .hbm, ⟨62, _⟩ => ⟨S1024x100x1, .f32⟩
  | .hbm, ⟨63, _⟩ => ⟨S_, .f32⟩
  | .hbm, ⟨64, _⟩ => ⟨S1024x100x1, .f32⟩
  | .hbm, ⟨65, _⟩ => ⟨S1024x100x1, .f32⟩
  | .hbm, ⟨66, _⟩ => ⟨S1024x100x1, .f32⟩
  | .hbm, ⟨67, _⟩ => ⟨S1024x100x32, .f32⟩
  | .hbm, ⟨68, _⟩ => ⟨S1024x100x32, .f32⟩
  | .hbm, ⟨69, _⟩ => ⟨S1024x1x1, .i1⟩
  | .hbm, ⟨70, _⟩ => ⟨S1024x100x32, .i1⟩
  | .hbm, ⟨71, _⟩ => ⟨S1024x100x32, .f32⟩
  | .hbm, ⟨72, _⟩ => ⟨S_, .i32⟩
  | .hbm, ⟨73, _⟩ => ⟨S_, .i32⟩
  | _, _ => ⟨S1024x20x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev main_v3_7 : Ref sig .tc := ⟨.hbm, 18, rfl⟩
abbrev main_while0c_c_7 : Ref sig .tc := ⟨.hbm, 19, rfl⟩
abbrev main_while0c_v4 : Ref sig .tc := ⟨.hbm, 20, rfl⟩
abbrev main_while0b_call0_c : Ref sig .tc := ⟨.hbm, 21, rfl⟩
abbrev main_while0b_call0_c_0 : Ref sig .tc := ⟨.hbm, 22, rfl⟩
abbrev main_while0b_call0_v0 : Ref sig .tc := ⟨.hbm, 23, rfl⟩
abbrev main_while0b_v4 : Ref sig .tc := ⟨.hbm, 24, rfl⟩
abbrev main_while0b_call1_c : Ref sig .tc := ⟨.hbm, 25, rfl⟩
abbrev main_while0b_call1_v0 : Ref sig .tc := ⟨.hbm, 26, rfl⟩
abbrev main_while0b_v5 : Ref sig .tc := ⟨.hbm, 27, rfl⟩
abbrev main_while0b_v6 : Ref sig .tc := ⟨.hbm, 28, rfl⟩
abbrev main_while0b_v7 : Ref sig .tc := ⟨.hbm, 29, rfl⟩
abbrev main_while0b_v8 : Ref sig .tc := ⟨.hbm, 30, rfl⟩
abbrev main_while0b_v9 : Ref sig .tc := ⟨.hbm, 31, rfl⟩
abbrev main_while0b_v10 : Ref sig .tc := ⟨.hbm, 32, rfl⟩
abbrev main_while0b_v11 : Ref sig .tc := ⟨.hbm, 33, rfl⟩
abbrev main_while0b_v12 : Ref sig .tc := ⟨.hbm, 34, rfl⟩
abbrev main_while0b_cst_7 : Ref sig .tc := ⟨.hbm, 35, rfl⟩
abbrev main_while0b_v13 : Ref sig .tc := ⟨.hbm, 36, rfl⟩
abbrev main_while0b_v14 : Ref sig .tc := ⟨.hbm, 37, rfl⟩
abbrev main_while0b_v15 : Ref sig .tc := ⟨.hbm, 38, rfl⟩
abbrev main_while0b_cst_8 : Ref sig .tc := ⟨.hbm, 39, rfl⟩
abbrev main_while0b_v16 : Ref sig .tc := ⟨.hbm, 40, rfl⟩
abbrev main_while0b_v17 : Ref sig .tc := ⟨.hbm, 41, rfl⟩
abbrev main_while0b_cst_9 : Ref sig .tc := ⟨.hbm, 42, rfl⟩
abbrev main_while0b_v18 : Ref sig .tc := ⟨.hbm, 43, rfl⟩
abbrev main_while0b_v19 : Ref sig .tc := ⟨.hbm, 44, rfl⟩
abbrev main_while0b_v20 : Ref sig .tc := ⟨.hbm, 45, rfl⟩
abbrev main_while0b_v21 : Ref sig .tc := ⟨.hbm, 46, rfl⟩
abbrev main_while0b_v22 : Ref sig .tc := ⟨.hbm, 47, rfl⟩
abbrev main_while0b_v23 : Ref sig .tc := ⟨.hbm, 48, rfl⟩
abbrev main_while0b_v24 : Ref sig .tc := ⟨.hbm, 49, rfl⟩
abbrev main_while0b_v25 : Ref sig .tc := ⟨.hbm, 50, rfl⟩
abbrev main_while0b_v26 : Ref sig .tc := ⟨.hbm, 51, rfl⟩
abbrev main_while0b_call2_cst : Ref sig .tc := ⟨.hbm, 52, rfl⟩
abbrev main_while0b_call2_v0 : Ref sig .tc := ⟨.hbm, 53, rfl⟩
abbrev main_while0b_v27 : Ref sig .tc := ⟨.hbm, 54, rfl⟩
abbrev main_while0b_v28 : Ref sig .tc := ⟨.hbm, 55, rfl⟩
abbrev main_while0b_v29 : Ref sig .tc := ⟨.hbm, 56, rfl⟩
abbrev main_while0b_v30 : Ref sig .tc := ⟨.hbm, 57, rfl⟩
abbrev main_while0b_v31 : Ref sig .tc := ⟨.hbm, 58, rfl⟩
abbrev main_while0b_v32 : Ref sig .tc := ⟨.hbm, 59, rfl⟩
abbrev main_while0b_cst_10 : Ref sig .tc := ⟨.hbm, 60, rfl⟩
abbrev main_while0b_v33 : Ref sig .tc := ⟨.hbm, 61, rfl⟩
abbrev main_while0b_v34 : Ref sig .tc := ⟨.hbm, 62, rfl⟩
abbrev main_while0b_cst_11 : Ref sig .tc := ⟨.hbm, 63, rfl⟩
abbrev main_while0b_v35 : Ref sig .tc := ⟨.hbm, 64, rfl⟩
abbrev main_while0b_v36 : Ref sig .tc := ⟨.hbm, 65, rfl⟩
abbrev main_while0b_v37 : Ref sig .tc := ⟨.hbm, 66, rfl⟩
abbrev main_while0b_v38 : Ref sig .tc := ⟨.hbm, 67, rfl⟩
abbrev main_while0b_v39 : Ref sig .tc := ⟨.hbm, 68, rfl⟩
abbrev main_while0b_v40 : Ref sig .tc := ⟨.hbm, 69, rfl⟩
abbrev main_while0b_call3_v0 : Ref sig .tc := ⟨.hbm, 70, rfl⟩
abbrev main_while0b_v41 : Ref sig .tc := ⟨.hbm, 71, rfl⟩
abbrev main_while0b_c_12 : Ref sig .tc := ⟨.hbm, 72, rfl⟩
abbrev main_while0b_v42 : Ref sig .tc := ⟨.hbm, 73, rfl⟩

abbrev nD : Nat := 1
abbrev τ : Topo := Topo.v7x

variable {F : FTy → Type} [FloatOps F]

abbrev main_while0_count : Scf.Loop 32 := ⟨0#32, 20#32, 1#32⟩
-- ==== Proof.Cell.lean ====
/- One memory slot's step, as plain arithmetic on 32 extended reals, in the two forms the two programs compute it, and
   the proof that the forms agree when the sentence and the slot are real. -/
module

public import Idealize.ShloMosaic.PureOps
public import Idealize.ShloMosaic.Lib.Pointwise

@[expose] public section

noncomputable section

namespace Cert.Memory

open Idealize.ShloMosaic

/-- A slot, a key or a sentence: 32 extended reals. -/
abbrev Row := Fin 32 → EReal

/-- A 32 by 32 table of weights. -/
abbrev Table := Fin 32 → Fin 32 → EReal

/-- The floor under the sum of squares, the constant both programs print. -/
def floor : EReal := Ideal.ofBits .f32 0x2B8CBCCC#32

/-- A row times a table. -/
def through (v : Row) (M : Table) : Row := fun d => ∑ e, v e * M e d

/-- The candidate: the slot, the key and the sentence through their tables, added and cut off below at zero. -/
def candidate (U V W : Table) (x k h : Row) : Row := fun d =>
  max (through h U d + through k V d + through x W d) 0

/-- The slot plus the gated candidate. -/
def moved (U V W : Table) (x k h : Row) (g : EReal) : Row := fun d => h d + g * candidate U V W x k h d

/-- A row divided by its length, the length's square kept above `floor`. -/
def unit (u : Row) : Row := fun d => u d * Ideal.rsqrt (max (∑ e, u e * u e) floor)

/-- The gate with the slot and the key added before the product with the sentence. -/
def gateSum (x k h : Row) : EReal := Ideal.logistic (∑ d, x d * (h d + k d))

/-- The gate with the two products taken apart. -/
def gateApart (x k h : Row) : EReal := Ideal.logistic (∑ d, (x d * h d + x d * k d))

/-- One step of a slot where the sentence counts (`on`), the slot itself where it does not; the gate is a parameter. -/
def stepWith (gate : Row → Row → Row → EReal) (U V W : Table) (x k : Row) (on : Prop) [Decidable on] (h : Row) : Row :=
  fun d => if on then unit (moved U V W x k h (gate x k h)) d else h d

/-- Every entry is a real number. -/
def Finite (v : Row) : Prop := ∀ d, ∃ r : ℝ, v d = (r : EReal)

/-- A real number times a sum whose first summand is real is the sum of the products, whatever the second summand. -/
theorem real_mul_add (a b : ℝ) (k : EReal) : (a : EReal) * ((b : EReal) + k) = (a : EReal) * b + a * k := by
  induction k using EReal.rec with
  | coe r => norm_cast; exact mul_add a b r
  | bot =>
    rcases lt_trichotomy a 0 with h | h | h
    · rw [EReal.add_bot, EReal.coe_mul_bot_of_neg h, ← EReal.coe_mul, EReal.coe_add_top]
    · subst h; simp
    · rw [EReal.add_bot, EReal.coe_mul_bot_of_pos h, EReal.add_bot]
  | top =>
    rcases lt_trichotomy a 0 with h | h | h
    · rw [EReal.coe_add_top, EReal.coe_mul_top_of_neg h, EReal.add_bot]
    · subst h; simp
    · rw [EReal.coe_add_top, EReal.coe_mul_top_of_pos h, ← EReal.coe_mul, EReal.coe_add_top]

/-- The two gates agree where the sentence and the slot are real. -/
theorem gate_eq {x k h : Row} (hx : Finite x) (hh : Finite h) : gateSum x k h = gateApart x k h := by
  unfold gateSum gateApart
  refine congrArg _ (Finset.sum_congr rfl fun d _ => ?_)
  obtain ⟨a, ha⟩ := hx d
  obtain ⟨b, hb⟩ := hh d
  rw [ha, hb, real_mul_add]

/-- Two gates of the same value lead to the same step. -/
theorem stepWith_congr {gate gate' : Row → Row → Row → EReal} (U V W : Table) (x k : Row) (on : Prop) [Decidable on]
    (h : Row) (e : gate x k h = gate' x k h) : stepWith gate U V W x k on h = stepWith gate' U V W x k on h := by
  funext d
  unfold stepWith
  rw [e]

/-- A square is not negative. -/
theorem sq_nonneg (a : EReal) : 0 ≤ a * a := by
  induction a using EReal.rec with
  | coe r => exact_mod_cast mul_self_nonneg r
  | bot => simp
  | top => simp

/-- Only a real number has a square below the top. -/
theorem real_of_sq {a : EReal} (h : a * a ≠ ⊤) : ∃ r : ℝ, a = r := by
  induction a using EReal.rec with
  | coe r => exact ⟨r, rfl⟩
  | bot => simp at h
  | top => simp at h

/-- The floor is a positive real number. -/
theorem floor_real : ∃ r : ℝ, 0 < r ∧ floor = r := by
  refine ⟨_, ?_, by simp [floor, Ideal.ofBits, Ideal.ieee, -EReal.coe_mul]; rfl⟩
  positivity

/-- A row divided by its length is real: where the sum of squares is infinite, the factor is zero. -/
theorem unit_finite (u : Row) : Finite (unit u) := by
  intro d
  obtain ⟨f, hf, ef⟩ := floor_real
  unfold unit
  by_cases hs : ∑ e, u e * u e = ⊤
  · exact ⟨0, by rw [hs]; simp⟩
  · have hle : ∀ e, u e * u e ≤ ∑ e, u e * u e := fun e =>
      Finset.single_le_sum (f := fun e => u e * u e) (fun i _ => sq_nonneg (u i)) (Finset.mem_univ e)
    obtain ⟨r, hr⟩ := real_of_sq (a := u d) fun h => hs (top_le_iff.mp (h ▸ hle d))
    have h0 : (0 : EReal) ≤ ∑ e, u e * u e := Finset.sum_nonneg fun e _ => sq_nonneg (u e)
    obtain ⟨s, es⟩ : ∃ s : ℝ, ∑ e, u e * u e = s := by
      generalize ∑ e, u e * u e = S at hs h0
      induction S using EReal.rec with
      | coe s => exact ⟨s, rfl⟩
      | bot => simp at h0
      | top => exact absurd rfl hs
    have hm : max ((s : ℝ) : EReal) (f : EReal) = ((max s f : ℝ) : EReal) := (EReal.coe_strictMono.monotone.map_max).symm
    have hp : 0 < max s f := lt_max_of_lt_right hf
    rw [es, ef, hm, hr, Ideal.rsqrt_coe, if_neg (not_lt.mpr hp.le), if_neg hp.ne']
    exact ⟨r * (Real.sqrt (max s f))⁻¹, by rw [EReal.coe_mul]⟩

/-- A step leaves a real slot real. -/
theorem stepWith_finite (gate : Row → Row → Row → EReal) (U V W : Table) (x k : Row) (on : Prop) [Decidable on] {h : Row}
    (hh : Finite h) : Finite (stepWith gate U V W x k on h) := by
  intro d
  unfold stepWith
  split
  · exact unit_finite _ d
  · exact hh d

/-- The slot after `n` steps from zero; step `i` reads sentence `xs i` and the flag `on i`. -/
def slot (gate : Row → Row → Row → EReal) (U V W : Table) (xs : ℕ → Row) (k : Row) (on : ℕ → Prop) [DecidablePred on] :
    ℕ → Row
  | 0 => fun _ => 0
  | n + 1 => stepWith gate U V W (xs n) k (on n) (slot gate U V W xs k on n)

/-- Before the first step the slot is zero. -/
theorem slot_zero (gate : Row → Row → Row → EReal) (U V W : Table) (xs : ℕ → Row) (k : Row) (on : ℕ → Prop)
    [DecidablePred on] : slot gate U V W xs k on 0 = fun _ => 0 := rfl

/-- One more step. -/
theorem slot_succ (gate : Row → Row → Row → EReal) (U V W : Table) (xs : ℕ → Row) (k : Row) (on : ℕ → Prop)
    [DecidablePred on] (n : ℕ) : slot gate U V W xs k on (n + 1) =
      stepWith gate U V W (xs n) k (on n) (slot gate U V W xs k on n) := rfl

/-- The slot is real after any number of steps. -/
theorem slot_finite (gate : Row → Row → Row → EReal) (U V W : Table) (xs : ℕ → Row) (k : Row) (on : ℕ → Prop)
    [DecidablePred on] (n : ℕ) : Finite (slot gate U V W xs k on n) := by
  induction n with
  | zero => exact fun _ => ⟨0, rfl⟩
  | succ n ih => exact stepWith_finite gate U V W _ _ _ ih

/-- With real sentences the two gates lead to the same slot after any number of steps. -/
theorem slot_eq (U V W : Table) (xs : ℕ → Row) (k : Row) (on : ℕ → Prop) [DecidablePred on] (hx : ∀ n, Finite (xs n))
    (n : ℕ) : slot gateSum U V W xs k on n = slot gateApart U V W xs k on n := by
  induction n with
  | zero => rw [slot_zero, slot_zero]
  | succ n ih =>
    rw [slot_succ, slot_succ, ih]
    exact stepWith_congr _ _ _ _ _ _ _ (gate_eq (hx n) (slot_finite gateApart U V W xs k on n))

/-- Equal sentences, keys and flags lead to equal slots. -/
theorem slot_congr (gate : Row → Row → Row → EReal) {U U' V V' W W' : Table} {xs xs' : ℕ → Row} {k k' : Row} {on on' : ℕ → Prop}
    {_ : DecidablePred on} {_ : DecidablePred on'} (hU : U = U') (hV : V = V') (hW : W = W') (hx : xs = xs') (hk : k = k')
    (ho : ∀ n, on n ↔ on' n) (n : ℕ) : slot gate U V W xs k on n = slot gate U' V' W' xs' k' on' n := by
  subst hU hV hW hx hk
  induction n with
  | zero => rw [slot_zero, slot_zero]
  | succ n ih =>
    rw [slot_succ, slot_succ, ih]
    exact funext fun d => if_congr (ho n) rfl rfl

/-- A step's number, as an index of the axis of twenty sentences. -/
abbrev stepNo (n : ℕ) : Fin 20 := Fin.ofNat 20 n

/-- The memory of entity `k` for text `b` after the twenty sentences `E b` with flags `M b`. -/
def entity (gate : Row → Row → Row → EReal) (U V W : Table) (E : Fin 1024 → Fin 20 → Row) (M : Fin 1024 → Fin 20 → BitVec 1)
    (K : Fin 1024 → Fin 100 → Row) (b : Fin 1024) (k : Fin 100) : Row :=
  slot gate U V W (fun n => E b (stepNo n)) (K b k) (fun n => M b (stepNo n) = 1#1) 20

/-- With real sentences the two gates lead to the same memories. -/
theorem entity_eq (U V W : Table) (E : Fin 1024 → Fin 20 → Row) (M : Fin 1024 → Fin 20 → BitVec 1) (K : Fin 1024 → Fin 100 → Row)
    (hE : ∀ b n, Finite (E b n)) (b : Fin 1024) (k : Fin 100) :
    entity gateSum U V W E M K b k = entity gateApart U V W E M K b k :=
  slot_eq U V W _ _ _ (fun n => hE b (stepNo n)) 20

end Cert.Memory

end
-- ==== Proof.Step.lean ====
/- One step of the kernel on a whole block, as vector operations, and what it computes at an index: lane `p * 32 + d` of
   a row holds entry `d` of slot `p`, and the step is `stepWith` on each slot. -/
module

public import proofs.«01_k».proof.Proof.Gen.KernelIdeal.Skeleton
public import proofs.«01_k».proof.Proof.Cell
public import Idealize.ShloMosaic.Lib.Pointwise

@[expose] public section

set_option maxRecDepth 16384

noncomputable section

namespace Cert.Memory

open Idealize.ShloMosaic Idealize.ShloMosaic.TcCoe Idealize.SL.Sem
open Cert.KernelIdeal Cert.KernelIdeal.Gen

section Operations

variable {F : FTy → Type} [FloatOps F]

/-- A block times a 128 by 128 table, the block's first two axes taken together. -/
def times (h : FVec F S25x128x128 .f32) (M : FVec F S128x128 .f32) : FVec F S25x128x128 .f32 :=
  shapeCast S25x128x128 (matmul dot_S3200x128_S128x128_S3200x128_1_0_0_1_n_n none
    (shapeCast S3200x128 h shapeCasts_S25x128x128_S3200x128) M (constant S3200x128 .f32 0x00000000#32)) shapeCasts_S3200x128_S25x128x128

/-- One step's sentences (or their products with the table) repeated over the 25 rows of slots. -/
def spread (x : Vec F S1x128x128 .f32) : FVec F S25x128x128 .f32 :=
  broadcastTo S25x128x128 (shapeCast S1x128x128 (shapeCast S128x128 x shapeCasts_S1x128x128_S128x128) shapeCasts_S128x128_S1x128x128)
    broadcasts_S1x128x128_S25x128x128

/-- The block of slots plus the gated candidates. -/
def movedV (A U4 : FVec F S128x128 .f32) (K kV h : FVec F S25x128x128 .f32) (x w : Vec F S1x128x128 .f32) : FVec F S25x128x128 .f32 :=
  addf h (mulf (logistic (times (mulf (spread x) (addf h K)) A))
    (maximumf (addf (addf (times h U4) kV) (spread w)) (broadcast S25x128x128 (Scalar.ofBits .f32 0x00000000#32))))

/-- A block with every slot divided by its length. -/
def unitV (A : FVec F S128x128 .f32) (u : FVec F S25x128x128 .f32) : FVec F S25x128x128 .f32 :=
  mulf u (rsqrt (maximumf (times (mulf u u) A) (broadcast S25x128x128 (Scalar.ofBits .f32 0x2B8CBCCC#32))))

/-- Where the mask of a step is not zero, repeated over the slots. -/
def onV (m : Vec F S1x128x1 .f32) : IVec S25x128x128 1 :=
  broadcastTo S25x128x128 (shapeCast S1x128x1 (cmpf .one
    (shapeCast S1x128x1 (shapeCast S128x1 m shapeCasts_S1x128x1_S128x1) shapeCasts_S128x1_S1x128x1)
    (broadcast S1x128x1 (Scalar.ofBits .f32 0x00000000#32))) shapeCasts_S1x128x1_S1x128x1) broadcasts_S1x128x1_S25x128x128

/-- One step of the block of slots. -/
def stepV (A U4 : FVec F S128x128 .f32) (K kV h : FVec F S25x128x128 .f32) (x w : Vec F S1x128x128 .f32) (m : Vec F S1x128x1 .f32) :
    FVec F S25x128x128 .f32 :=
  select (onV m) (unitV A (movedV A U4 K kV h x w)) h

end Operations

/-- The lane that holds entry `d` of slot `p`. -/
def lane (p : Fin 4) (d : Fin 32) : Fin 128 := ⟨p * 32 + d, by omega⟩

/-- Slot `p` of row `(q, b)` of a block. -/
def slotOf (v : FVec Ideal S25x128x128 .f32) (q : Fin 25) (b : Fin 128) (p : Fin 4) : Row := fun d => v (ix3 q b (lane p d))

/-- A 128 by 128 table with four copies of `T` on its diagonal and zero elsewhere. -/
def Diagonal (M : FVec Ideal S128x128 .f32) (T : Table) : Prop :=
  ∀ p e p' d, M (ix2 (lane p e) (lane p' d)) = if p = p' then T e d else 0

/-- A sum over 128 lanes against a diagonal table is the sum over the lanes of one slot. -/
theorem sum_diagonal {M : FVec Ideal S128x128 .f32} {T : Table} (hM : Diagonal M T) (f : Fin 128 → EReal) (p : Fin 4) (d : Fin 32) :
    ∑ k : Fin 128, f k * M (ix2 k (lane p d)) = ∑ e, f (lane p e) * T e d := by
  have h := Fin.sum_univ_tiles 4 32 rfl fun k : Fin 128 => f k * M (ix2 k (lane p d))
  refine h.trans ?_
  have h1 : ∀ j : Fin 4, ∀ t : Fin 32, f (lane j t) * M (ix2 (lane j t) (lane p d)) = if j = p then f (lane j t) * T t d else 0 := by
    intro j t
    rw [hM j t p d]
    split <;> simp
  have h2 : ∀ j : Fin 4, (∑ t : Fin 32, f (lane j t) * M (ix2 (lane j t) (lane p d))) = if j = p then ∑ t, f (lane p t) * T t d else 0 := by
    intro j
    rw [Finset.sum_congr rfl fun t _ => h1 j t]
    by_cases e : j = p
    · subst e; simp
    · simp [e]
  refine (Finset.sum_congr rfl fun j _ => h2 j).trans ?_
  simp

/-- A block times a table, at an index. -/
theorem times_at (h : FVec Ideal S25x128x128 .f32) (M : FVec Ideal S128x128 .f32) (q : Fin 25) (b l : Fin 128) :
    times h M (ix3 q b l) = ∑ k : Fin 128, h (ix3 q b k) * M (ix2 k l) := by
  pointwise [times]

/-- A block times a diagonal table is every slot times the small table. -/
theorem times_diagonal {M : FVec Ideal S128x128 .f32} {T : Table} (hM : Diagonal M T) (h : FVec Ideal S25x128x128 .f32) (q : Fin 25)
    (b : Fin 128) (p : Fin 4) (d : Fin 32) : times h M (ix3 q b (lane p d)) = through (slotOf h q b p) T d :=
  (times_at h M q b (lane p d)).trans (sum_diagonal hM (fun k => h (ix3 q b k)) p d)

/-- One step's sentences at an index of the block. -/
theorem spread_at (x : Vec Ideal S1x128x128 .f32) (q : Fin 25) (b l : Fin 128) : spread x (ix3 q b l) = x (ix3 0 b l) := by
  pointwise [spread]

/-- The mask of a step at an index of the block: set where the step's mask is not zero. -/
theorem onV_at (m : Vec Ideal S1x128x1 .f32) (q : Fin 25) (b l : Fin 128) (a c : EReal) :
    Scalar.select (onV m (ix3 q b l)) a c = if (m (ix3 0 b 0) : EReal) ≠ 0 then a else c := by
  pointwise [onV]

/-- The moved slots at an index. -/
theorem movedV_at {A U4 : FVec Ideal S128x128 .f32} {U V W : Table} (hA : Diagonal A fun _ _ => 1) (hU : Diagonal U4 U)
    (K kV h : FVec Ideal S25x128x128 .f32) (x w : Vec Ideal S1x128x128 .f32) (xr : Fin 128 → Row)
    (hkV : ∀ q b p d, kV (ix3 q b (lane p d)) = through (slotOf K q b p) V d) (hx : ∀ b p d, x (ix3 0 b (lane p d)) = xr b d)
    (hw : ∀ b p d, w (ix3 0 b (lane p d)) = through (xr b) W d) (q : Fin 25) (b : Fin 128) (p : Fin 4) (d : Fin 32) :
    movedV A U4 K kV h x w (ix3 q b (lane p d)) =
      moved U V W (xr b) (slotOf K q b p) (slotOf h q b p) (gateSum (xr b) (slotOf K q b p) (slotOf h q b p)) d := by
  have hg : times (mulf (spread x) (addf h K)) A (ix3 q b (lane p d)) =
      ∑ d, xr b d * (slotOf h q b p d + slotOf K q b p d) := by
    rw [times_diagonal hA]
    refine Finset.sum_congr rfl fun e _ => ?_
    rw [mul_one]
    refine congrArg₂ (· * ·) ((spread_at x q b (lane p e)).trans (hx b p e)) rfl
  have hu := times_diagonal hU h q b p d
  have hk := hkV q b p d
  have hw' := (spread_at w q b (lane p d)).trans (hw b p d)
  pointwise [movedV, hg, hu, hk, hw']
  rfl

/-- The slots divided by their lengths, at an index. -/
theorem unitV_at {A : FVec Ideal S128x128 .f32} (hA : Diagonal A fun _ _ => 1) (u : FVec Ideal S25x128x128 .f32) (q : Fin 25)
    (b : Fin 128) (p : Fin 4) (d : Fin 32) : unitV A u (ix3 q b (lane p d)) = unit (slotOf u q b p) d := by
  have hs : times (mulf u u) A (ix3 q b (lane p d)) = ∑ e, slotOf u q b p e * slotOf u q b p e := by
    rw [times_diagonal hA]
    exact Finset.sum_congr rfl fun e _ => mul_one _
  pointwise [unitV, hs]
  rfl

/-- One step of the kernel is one step of every slot. -/
theorem stepV_at {A U4 : FVec Ideal S128x128 .f32} {U V W : Table} (hA : Diagonal A fun _ _ => 1) (hU : Diagonal U4 U)
    (K kV h : FVec Ideal S25x128x128 .f32) (x w : Vec Ideal S1x128x128 .f32) (m : Vec Ideal S1x128x1 .f32) (xr : Fin 128 → Row)
    (on : Fin 128 → Prop) [DecidablePred on]
    (hkV : ∀ q b p d, kV (ix3 q b (lane p d)) = through (slotOf K q b p) V d) (hx : ∀ b p d, x (ix3 0 b (lane p d)) = xr b d)
    (hw : ∀ b p d, w (ix3 0 b (lane p d)) = through (xr b) W d) (hm : ∀ b, (m (ix3 0 b 0) : EReal) ≠ 0 ↔ on b)
    (q : Fin 25) (b : Fin 128) (p : Fin 4) :
    slotOf (stepV A U4 K kV h x w m) q b p = stepWith gateSum U V W (xr b) (slotOf K q b p) (on b) (slotOf h q b p) := by
  funext d
  have hmv : slotOf (movedV A U4 K kV h x w) q b p =
      moved U V W (xr b) (slotOf K q b p) (slotOf h q b p) (gateSum (xr b) (slotOf K q b p) (slotOf h q b p)) :=
    funext fun e => movedV_at hA hU K kV h x w xr hkV hx hw q b p e
  have hun := (unitV_at hA (movedV A U4 K kV h x w) q b p d).trans (congrArg (fun r => unit r d) hmv)
  refine (onV_at m q b (lane p d) _ _).trans ?_
  rw [hun]
  exact if_congr (hm b) rfl rfl

end Cert.Memory

end
-- ==== Proof.Tables.lean ====
/- The tables the kernel builds before its steps, read at an index: the table of ones and the three tables of weights are
   diagonal; the sentences repeated over the slots, and the products of sentences and keys with their tables. -/
module

public import proofs.«01_k».proof.Proof.Step

@[expose] public section

set_option maxRecDepth 16384

noncomputable section

namespace Cert.Memory

open Idealize.ShloMosaic Idealize.ShloMosaic.TcCoe Idealize.SL.Sem
open Cert.KernelIdeal Cert.KernelIdeal.Gen

/-- The kernel's table of ones. -/
def onesV {F : FTy → Type} [FloatOps F] : FVec F S128x128 .f32 :=
  k0_pay5 k0_pay1 k0_pay2 k0_pay3 k0_pay4

/-- The word a lane's number divided by 32 comes out as. -/
theorem row_word (k l : Fin 128) : k0_pay1 (ix2 k l) = BitVec.ofNat 32 (k / 32) := by
  pointwise [k0_pay1]
  revert k
  decide +kernel

/-- The same along the other axis. -/
theorem column_word (k l : Fin 128) :
    select (andi k0_pay3 k0_pay4) (subi k0_pay2 (broadcast S128x128 1#32)) k0_pay2 (ix2 k l) = BitVec.ofNat 32 (l / 32) := by
  pointwise [k0_pay2, k0_pay3, k0_pay4]
  revert l
  decide +kernel

/-- Two lanes' words agree exactly where the lanes belong to one slot; the table holds one there and zero elsewhere. -/
theorem ones_diagonal : Diagonal (onesV (F := Ideal)) fun _ _ => 1 := by
  intro p e p' d
  have hr := row_word (lane p e) (lane p' d)
  have hc := column_word (lane p e) (lane p' d)
  have h1 : ((lane p e : Fin 128) : ℕ) / 32 = p := by simp only [lane]; omega
  have h2 : ((lane p' d : Fin 128) : ℕ) / 32 = p' := by simp only [lane]; omega
  rw [h1] at hr
  rw [h2] at hc
  have hw : onesV (F := Ideal) (ix2 (lane p e) (lane p' d)) =
      FloatOps.sitofp .f32 (BitVec.setWidth 32 (IntOp.cmpi .eq (BitVec.ofNat 32 p) (BitVec.ofNat 32 p'))) := by
    rw [← hr, ← hc]; rfl
  rw [hw]
  have hb : ∀ p p' : Fin 4, BitVec.setWidth 32 (IntOp.cmpi .eq (BitVec.ofNat 32 p) (BitVec.ofNat 32 p')) = if p = p' then 1#32 else 0#32 := by
    decide
  rw [hb p p']
  split
  · exact (Ideal.scalar_sitofp_def 1#32).trans (by norm_num)
  · exact (Ideal.scalar_sitofp_def 0#32).trans (by norm_num)

/-- Four copies of a table put on the diagonal, zeros elsewhere, as the kernel puts them together. -/
def fourV {F : FTy → Type} [FloatOps F] (T : Vec F S32x32 .f32) : FVec F S128x128 .f32 := k0_pay6 T

/-- The four copies are the table's diagonal. -/
theorem four_diagonal (T : Vec Ideal S32x32 .f32) : Diagonal (fourV T) fun e d => T (ix2 e d) := by
  intro p e p' d
  have hp := p.isLt
  have hp' := p'.isLt
  have he := e.isLt
  have hd := d.isLt
  pointwise [fourV, k0_pay6, lane]
  have hpp : p = p' ↔ (p : ℕ) = p' := Fin.ext_iff
  by_cases h : p = p'
  · rw [if_pos h]
    rw [hpp] at h
    split_ifs <;> first
      | (exfalso; omega)
      | (refine congrArg T ((ix2_inj ..).2 ⟨Fin.ext ?_, Fin.ext ?_⟩) <;> (dsimp only; omega))
  · rw [if_neg h]
    rw [hpp] at h
    split_ifs <;> first
      | rfl
      | (exfalso; omega)

/-- The sentences repeated four times along the lanes: every slot's lanes hold the sentence. -/
theorem sentences_at (X : Vec Ideal S20x128x32 .f32) (i : Fin 20) (b : Fin 128) (p : Fin 4) (d : Fin 32) :
    k0_pay8 X (ix3 i b (lane p d)) = X (ix3 i b d) := by
  have hp := p.isLt
  have hd := d.isLt
  pointwise [k0_pay8, lane]
  split_ifs <;> first
    | (exfalso; omega)
    | (refine congrArg X ((ix3_inj ..).2 ⟨rfl, rfl, Fin.ext ?_⟩) <;> (dsimp only; omega))

/-- The products of the sentences with their table: every slot's lanes hold the sentence's product. -/
theorem products_at (T : Vec Ideal S32x32 .f32) (X : Vec Ideal S20x128x128 .f32) (x : Fin 20 → Fin 128 → Row)
    (hX : ∀ i b p d, X (ix3 i b (lane p d)) = x i b d) (i : Fin 20) (b : Fin 128) (p : Fin 4) (d : Fin 32) :
    k0_pay10 (k0_pay9 T X) (ix3 i b (lane p d)) = through (x i b) (fun e d => T (ix2 e d)) d := by
  have h : k0_pay10 (k0_pay9 T X) (ix3 i b (lane p d)) = ∑ k : Fin 128, X (ix3 i b k) * fourV T (ix2 k (lane p d)) := by
    have h0 : k0_pay9 T X = shapeCast S20x128x128 (matmul dot_S2560x128_S128x128_S2560x128_1_0_0_1_n_n none
      (shapeCast S2560x128 X shapeCasts_S20x128x128_S2560x128) (fourV T) (constant S2560x128 .f32 0x00000000#32)) shapeCasts_S2560x128_S20x128x128 := rfl
    rw [h0]
    pointwise [k0_pay10]
  rw [h, sum_diagonal (four_diagonal T) (fun k => X (ix3 i b k))]
  exact Finset.sum_congr rfl fun e _ => congrArg (· * _) (hX i b p e)

/-- The products of the keys with their table. -/
theorem keys_at (T : Vec Ideal S32x32 .f32) (K : Vec Ideal S25x128x128 .f32) (q : Fin 25) (b : Fin 128) (p : Fin 4) (d : Fin 32) :
    k0_pay12 (fourV T) K (ix3 q b (lane p d)) = through (slotOf (k0_pay11 K) q b p) (fun e d => T (ix2 e d)) d :=
  times_diagonal (four_diagonal T) (k0_pay11 K) q b p d

end Cert.Memory

end
-- ==== Proof.Chain.lean ====
/- The kernel's body on one block: twenty steps, one after the other, and what a slot of the block is after each. -/
module

public import proofs.«01_k».proof.Proof.Gen.KernelIdeal.Frame
public import proofs.«01_k».proof.Proof.Tables
public import Idealize.ShloMosaic.Lib.Pipeline.ValueKit

@[expose] public section

set_option maxRecDepth 16384

noncomputable section

namespace Cert.Memory

open Idealize.ShloMosaic Idealize.ShloMosaic.TcCoe Idealize.SL.Sem
open Cert.KernelIdeal Cert.KernelIdeal.Gen

variable {F : FTy → Type} [FloatOps F]

/-- The block of slots after `n` steps; step `i` reads the sentences `X i`, their products `W i` and the mask `M i`. -/
def chain (A U4 : FVec F S128x128 .f32) (K kV : FVec F S25x128x128 .f32) (X W : Fin 20 → Vec F S1x128x128 .f32)
    (M : Fin 20 → Vec F S1x128x1 .f32) : ℕ → FVec F S25x128x128 .f32
  | 0 => k0_pay13
  | n + 1 => stepV A U4 K kV (chain A U4 K kV X W M n) (X (stepNo n)) (W (stepNo n)) (M (stepNo n))

/-- The rectangle of step `i` in the array of sentences. -/
abbrev sentenceRect (i : Fin 20) : Rect S20x128x128 :=
  Rect.unit ![i, 0, 0] S1x128x128.size (by
    intro a
    have := i.isLt
    fin_cases a <;> simp [S1x128x128, S20x128x128] <;> omega)

/-- The rectangle of step `i` in the array of masks. -/
abbrev maskRect (i : Fin 20) : Rect S20x128x1 :=
  Rect.unit ![i, 0, 0] S1x128x1.size (by
    intro a
    have := i.isLt
    fin_cases a <;> simp [S1x128x1, S20x128x1] <;> omega)

/-- Step `i`'s part of the array of sentences. -/
def sentence (X : Vec F S20x128x128 .f32) (i : Fin 20) : Vec F S1x128x128 .f32 := View.ld X (sentenceRect i)

/-- Step `i`'s part of the array of masks. -/
def mask (M : Vec F S20x128x1 .f32) (i : Fin 20) : Vec F S1x128x1 .f32 := View.ld M (maskRect i)

/-- A load of a whole array is the array. -/
theorem load_whole {S : Shape} {e : EltTy} {v : Memref sig .tc .vmem S e} (h : v.IsWhole) (x : Vec F S e) {off : Fin S.rank → Nat}
    (inb : ∀ a, off a + S.size a ≤ S.size a) (h0 : ∀ a, off a = 0) :
    View.readAt (Elt F) v.view (Rect.unit off S.size inb).toLoadRect (h.unread x) = x := by
  rw [View.readAt_eq_ld, Memref.IsWhole.read_unread, View.ld_unit_lit inb x h0]

/-- A load of a part of an array is the part. -/
theorem load_part {S : Shape} {e : EltTy} {v : Memref sig .tc .vmem S e} (h : v.IsWhole) (x : Vec F S e) (r : Rect S) :
    View.readAt (Elt F) v.view r.toLoadRect (h.unread x) = View.ld x r := by
  rw [View.readAt_eq_ld, Memref.IsWhole.read_unread]

/-- A load of a part of an array stored as a whole just before is the part of what was stored. -/
theorem load_stored {S : Shape} {e : EltTy} (v : Memref sig .tc .vmem S e) (x : Vec F S e) {off : Fin S.rank → Nat}
    (inb : ∀ a, off a + S.size a ≤ S.size a) (h0 : ∀ a, off a = 0) (r : Rect S) :
    v.view.readCov [(⟨Rect.unit off S.size inb, x⟩ : View.Piece (Elt F) S e)] r.toLoadRect = View.ld x r := by
  rw [View.readCov_eq_canon', View.canon_cons_unit_lit inb x [] h0]

section Run

variable (c : Dev nD) (arg1 : Memref sig .tc .vmem S20x128x32 .f32) (harg1 : arg1.IsWhole)
  (arg2 : Memref sig .tc .vmem S20x128x1 .f32) (harg2 : arg2.IsWhole) (arg3 : Memref sig .tc .vmem S25x128x128 .f32)
  (harg3 : arg3.IsWhole) (arg4 : Memref sig .tc .vmem S32x32 .f32) (harg4 : arg4.IsWhole)
  (arg5 : Memref sig .tc .vmem S32x32 .f32) (harg5 : arg5.IsWhole) (arg6 : Memref sig .tc .vmem S32x32 .f32)
  (harg6 : arg6.IsWhole) (arg8 arg9 : Memref sig .tc .vmem S20x128x128 .f32) (x0 : Vec F S20x128x32 .f32)
  (x1 : Vec F S20x128x1 .f32) (x2 : Vec F S25x128x128 .f32) (x3 x4 x5 : Vec F S32x32 .f32)

/-- The last value the body computes is twenty steps from the first one, the loads still as the body makes them. -/
theorem body_chain : kernelRun0_A.sl.r_63 c arg1 harg1 arg2 harg2 arg3 harg3 arg4 harg4 arg5 harg5 arg6 harg6 arg8 arg9 x0 x1 x2 x3 x4 x5 =
    chain kernelRun0_A.sl.r (kernelRun0_A.sl.r_1 c arg4 harg4 x3) (kernelRun0_A.sl.r_4 c arg3 harg3 x2)
      (kernelRun0_A.sl.r_5 c arg3 harg3 arg5 harg5 x2 x4)
      (fun i => arg9.view.readCov (kernelRun0_A.sl.HS1_1 c arg1 harg1 x0) (sentenceRect i).toLoadRect)
      (fun i => arg8.view.readCov (kernelRun0_A.sl.HS0_1 c arg1 harg1 arg6 harg6 arg9 x0 x5) (sentenceRect i).toLoadRect)
      (fun i => View.readAt (Elt F) arg2.view (maskRect i).toLoadRect (harg2.unread x1)) 20 := rfl

/-- The last value the body computes, in terms of the blocks it is given. -/
theorem body_value : kernelRun0_A.sl.r_63 c arg1 harg1 arg2 harg2 arg3 harg3 arg4 harg4 arg5 harg5 arg6 harg6 arg8 arg9 x0 x1 x2 x3 x4 x5 =
    chain onesV (fourV x3) (k0_pay11 x2) (k0_pay12 (fourV x4) x2) (sentence (k0_pay8 x0))
      (sentence (k0_pay10 (k0_pay9 x5 (k0_pay8 x0)))) (mask x1) 20 := by
  have h1 : kernelRun0_A.sl.r_1 c arg4 harg4 x3 = fourV x3 := congrArg k0_pay6 (load_whole harg4 x3 _ (by decide))
  have h2 : kernelRun0_A.sl.r_2 c arg5 harg5 x4 = fourV x4 := congrArg k0_pay7 (load_whole harg5 x4 _ (by decide))
  have h4 : kernelRun0_A.sl.r_4 c arg3 harg3 x2 = k0_pay11 x2 := congrArg k0_pay11 (load_whole harg3 x2 _ (by decide))
  have h5 : kernelRun0_A.sl.r_5 c arg3 harg3 arg5 harg5 x2 x4 = k0_pay12 (fourV x4) x2 :=
    congrArg₂ k0_pay12 h2 (load_whole harg3 x2 _ (by decide))
  have hs : k0_pay8 (View.readAt (Elt F) arg1.view (Rect.unit ![0, 0, 0] S20x128x32.size inb_S20x128x32_S20x128x32_0_0_0).toLoadRect
      (harg1.unread x0)) = k0_pay8 x0 := congrArg k0_pay8 (load_whole harg1 x0 _ (by decide))
  have h80 : kernelRun0_A.sl.v80 c arg1 harg1 arg9 x0 = k0_pay8 x0 :=
    (View.readCov_unit_lit arg9.view _ _ (by decide)).trans hs
  have h3 : kernelRun0_A.sl.r_3 c arg1 harg1 arg6 harg6 arg9 x0 x5 = k0_pay9 x5 (k0_pay8 x0) :=
    congrArg₂ k0_pay9 (load_whole harg6 x5 _ (by decide)) h80
  have hX : (fun i => arg9.view.readCov (kernelRun0_A.sl.HS1_1 c arg1 harg1 x0) (sentenceRect i).toLoadRect) =
      sentence (k0_pay8 x0) := funext fun i =>
    (load_stored arg9 _ _ (by decide) (sentenceRect i)).trans (congrArg (fun y => sentence y i) hs)
  have hW : (fun i => arg8.view.readCov (kernelRun0_A.sl.HS0_1 c arg1 harg1 arg6 harg6 arg9 x0 x5) (sentenceRect i).toLoadRect) =
      sentence (k0_pay10 (k0_pay9 x5 (k0_pay8 x0))) := funext fun i =>
    (load_stored arg8 _ _ (by decide) (sentenceRect i)).trans (congrArg (fun y => sentence (k0_pay10 y) i) h3)
  have hM : (fun i => View.readAt (Elt F) arg2.view (maskRect i).toLoadRect (harg2.unread x1)) = mask x1 :=
    funext fun i => load_part harg2 x1 (maskRect i)
  rw [body_chain, h1, h4, h5, hX, hW, hM]
  rfl

end Run

/-- Step `i`'s sentences at an index. -/
theorem sentence_at (X : Vec Ideal S20x128x128 .f32) (i : Fin 20) (b l : Fin 128) : sentence X i (ix3 0 b l) = X (ix3 i b l) := by
  refine congrArg X (funext fun a => Fin.ext ?_)
  fin_cases a <;> simp [sentenceRect]

/-- Step `i`'s mask at an index. -/
theorem mask_at (M : Vec Ideal S20x128x1 .f32) (i : Fin 20) (b : Fin 128) : mask M i (ix3 0 b 0) = M (ix3 i b 0) := by
  refine congrArg M (funext fun a => Fin.ext ?_)
  fin_cases a <;> simp [maskRect]

/-- The block of keys is taken over as it is. -/
theorem keys_same (K : Vec Ideal S25x128x128 .f32) : k0_pay11 K = K := by
  funext i
  pointwise [k0_pay11]

/-- A slot of the block after `n` steps. -/
theorem chain_at (E : Vec Ideal S20x128x32 .f32) (M : Vec Ideal S20x128x1 .f32) (K : Vec Ideal S25x128x128 .f32)
    (U V W : Vec Ideal S32x32 .f32) (q : Fin 25) (b : Fin 128) (p : Fin 4) (n : ℕ) :
    slotOf (chain onesV (fourV U) (k0_pay11 K) (k0_pay12 (fourV V) K) (sentence (k0_pay8 E))
      (sentence (k0_pay10 (k0_pay9 W (k0_pay8 E)))) (mask M) n) q b p =
    slot gateSum (fun e d => U (ix2 e d)) (fun e d => V (ix2 e d)) (fun e d => W (ix2 e d))
      (fun n d => E (ix3 (stepNo n) b d)) (slotOf (k0_pay11 K) q b p) (fun n => (M (ix3 (stepNo n) b 0) : EReal) ≠ 0) n := by
  induction n with
  | zero =>
    rw [slot_zero]
    funext d
    show k0_pay13 (ix3 q b (lane p d)) = 0
    pointwise [k0_pay13]
  | succ n ih =>
    rw [slot_succ, ← ih]
    exact stepV_at ones_diagonal (four_diagonal U) _ _ _ _ _ _ (fun b d => E (ix3 (stepNo n) b d))
      (fun b => (M (ix3 (stepNo n) b 0) : EReal) ≠ 0) (keys_at V K)
      (fun b p d => (sentence_at _ _ _ _).trans (sentences_at E (stepNo n) b p d))
      (fun b p d => (sentence_at _ _ _ _).trans (products_at W _ (fun i b d => E (ix3 i b d)) (sentences_at E) (stepNo n) b p d))
      (fun b => by rw [mask_at]) q b p

end Cert.Memory

end
-- ==== Proof.Array.lean ====
/- The kernel's region: what a block of its result holds, and the whole result array after the run. -/
module

public import proofs.«01_k».proof.Proof.Chain
public import Idealize.ShloMosaic.Lib.Claim

@[expose] public section

set_option maxRecDepth 16384

noncomputable section

namespace Cert.Memory

open Idealize.ShloMosaic Idealize.ShloMosaic.TcCoe Idealize.SL.Sem
open Idealize.ShloMosaic.Pipeline (Dat)
open Cert.KernelIdeal Cert.KernelIdeal.Gen

/-- What the body leaves in the result's block at grid point `t`: twenty steps on the blocks it is given. -/
theorem block_chain {F : FTy → Type} [FloatOps F] (m : (ℓ : Loc nD τ sig) → Buf (Elt F) ℓ) (c : Dev nD) (t : Fin cfg0.N) :
    outsAt0 m c t = chain onesV (fourV (iblk m c 3 t)) (k0_pay11 (iblk m c 2 t)) (k0_pay12 (fourV (iblk m c 4 t)) (iblk m c 2 t))
      (sentence (k0_pay8 (iblk m c 0 t))) (sentence (k0_pay10 (k0_pay9 (iblk m c 5 t) (k0_pay8 (iblk m c 0 t)))))
      (mask (iblk m c 1 t)) 20 := by
  unfold outsAt0 out0_A_6
  refine (View.read_writes_junk_eq_canon _ _).trans ?_
  refine (View.canon_cons_unit_lit _ _ [] (by decide)).trans ?_
  exact body_value _ _ _ _ _ _ _ _ _ _ _ _ _ _ _ _ _ _ _ _ _

variable (m : (ℓ : Loc nD τ sig) → Buf (Elt Ideal) ℓ) (c : Dev nD)

/-- The sentences, text by text. -/
def sentencesOf : Fin 1024 → Fin 20 → Row := fun b n d => m ((c : Thread nD τ).loc main_arg0) (ix3 b n d)

/-- The flags. -/
def flagsOf : Fin 1024 → Fin 20 → BitVec 1 := fun b n => m ((c : Thread nD τ).loc main_arg1) (ix2 b n)

/-- The keys. -/
def keysOf : Fin 1024 → Fin 100 → Row := fun b k d => m ((c : Thread nD τ).loc main_arg2) (ix3 b k d)

/-- The table for the slots. -/
def tableU : Table := fun e d => m ((c : Thread nD τ).loc main_arg3) (ix2 e d)

/-- The table for the keys. -/
def tableV : Table := fun e d => m ((c : Thread nD τ).loc main_arg4) (ix2 e d)

/-- The table for the sentences. -/
def tableW : Table := fun e d => m ((c : Thread nD τ).loc main_arg5) (ix2 e d)

/-- The number of the entity at slot `p` of row `q`. -/
def entityNo (q : Fin 25) (p : Fin 4) : Fin 100 := ⟨q * 4 + p, by omega⟩

/-- The slot a lane belongs to. -/
def slotNo (l : Fin 128) : Fin 4 := ⟨l / 32, by omega⟩

/-- The entry of its slot a lane holds. -/
def entryNo (l : Fin 128) : Fin 32 := ⟨l % 32, by omega⟩

/-- A lane is the one that holds its entry of its slot. -/
theorem lane_split (l : Fin 128) : lane (slotNo l) (entryNo l) = l := Fin.ext (by simp only [lane, slotNo, entryNo]; omega)

/-- The result array of the region: every lane its entity's memory. -/
def memories : FVec Ideal S25x1024x128 .f32 := fun i =>
  entity gateSum (tableU m c) (tableV m c) (tableW m c) (sentencesOf m c) (flagsOf m c) (keysOf m c) (i 1)
    (entityNo (i 0) (slotNo (i 2))) (entryNo (i 2))

/-- The windows' blocks at a grid point. -/
theorem idx : ∀ t : Fin cfg0.N, win0_0.index t = ![0, (grid0.coords t 0).val, 0] ∧ win0_1.index t = ![0, (grid0.coords t 0).val, 0]
    ∧ win0_2.index t = ![0, (grid0.coords t 0).val, 0] ∧ win0_3.index t = ![0, 0] ∧ win0_4.index t = ![0, 0]
    ∧ win0_5.index t = ![0, 0] ∧ win0_6.index t = ![0, (grid0.coords t 0).val, 0] :=
  (by decide +kernel : ∀ t : Fin grid0.N, _)

/-- The text a block's row belongs to. -/
def text (t : Fin cfg0.N) (r : Fin 128) : Fin 1024 :=
  ⟨(grid0.coords t 0).val * 128 + r, by have := (grid0.coords t 0).isLt; have : (grid0.coords t 0).val < 8 := this; omega⟩

/-- The sentences as the region finds them. -/
theorem entry_sentences (n : Fin 20) (b : Fin 1024) (d : Fin 32) : V m c main_v0 (ix3 n b d) = sentencesOf m c b n d := by
  show StableHlo.after hostOps0 _ _ _ = _
  after_results
  pointwise [sentencesOf]

/-- The flags as the region finds them, a flag that is set a number that is not zero. -/
theorem entry_flags (n : Fin 20) (b : Fin 1024) : Ne (α := EReal) (V m c main_v3 (ix3 n b 0)) 0 ↔ flagsOf m c b n = 1#1 := by
  have h : V m c main_v3 (ix3 n b 0) = FloatOps.uitofp (F := Ideal) .f32 (flagsOf m c b n) := by
    show StableHlo.after hostOps0 _ _ _ = _
    after_results
    pointwise [flagsOf]
  rw [h]
  generalize flagsOf m c b n = x
  revert x
  have h0 : FloatOps.uitofp (F := Ideal) .f32 0#1 = 0 := by show ((((0#1 : BitVec 1).toNat : ℝ)) : EReal) = 0; norm_num
  have h1 : FloatOps.uitofp (F := Ideal) .f32 1#1 = 1 := by show ((((1#1 : BitVec 1).toNat : ℝ)) : EReal) = 1; norm_num
  intro x
  obtain rfl | rfl : x = 0#1 ∨ x = 1#1 := by revert x; decide
  · rw [h0]; simp
  · rw [h1]; simp

/-- The keys as the region finds them. -/
theorem entry_keys (q : Fin 25) (b : Fin 1024) (p : Fin 4) (d : Fin 32) :
    V m c main_v6 (ix3 q b (lane p d)) = keysOf m c b (entityNo q p) d := by
  show StableHlo.after hostOps0 _ _ _ = _
  after_results
  pointwise [keysOf, lane, entityNo]

/-- A block of sentences. -/
theorem block_sentences (t : Fin cfg0.N) (n : Fin 20) (r : Fin 128) (d : Fin 32) :
    iblk m c 0 t (ix3 n r d) = sentencesOf m c (text t r) n d := by
  rw [← entry_sentences]
  blk_ext [iblk, idx t, text]

/-- A block of flags. -/
theorem block_flags (t : Fin cfg0.N) (n : Fin 20) (r : Fin 128) :
    Ne (α := EReal) (iblk m c 1 t (ix3 n r 0)) 0 ↔ flagsOf m c (text t r) n = 1#1 := by
  rw [← entry_flags]
  have h : iblk m c 1 t (ix3 n r 0) = V m c main_v3 (ix3 n (text t r) 0) := by
    blk_ext [iblk, idx t, text]
  rw [h]

/-- A block of keys. -/
theorem block_keys (t : Fin cfg0.N) (q : Fin 25) (r : Fin 128) (p : Fin 4) (d : Fin 32) :
    iblk m c 2 t (ix3 q r (lane p d)) = keysOf m c (text t r) (entityNo q p) d := by
  rw [← entry_keys]
  blk_ext [iblk, idx t, text]

/-- The tables are whole blocks. -/
theorem block_tableU (t : Fin cfg0.N) (e d : Fin 32) : iblk m c 3 t (ix2 e d) = tableU m c e d := by
  unfold tableU
  rw [← V_main_arg3 m c]
  blk_ext [iblk, idx t]

/-- The same for the keys' table. -/
theorem block_tableV (t : Fin cfg0.N) (e d : Fin 32) : iblk m c 4 t (ix2 e d) = tableV m c e d := by
  unfold tableV
  rw [← V_main_arg4 m c]
  blk_ext [iblk, idx t]

/-- The same for the sentences' table. -/
theorem block_tableW (t : Fin cfg0.N) (e d : Fin 32) : iblk m c 5 t (ix2 e d) = tableW m c e d := by
  unfold tableW
  rw [← V_main_arg5 m c]
  blk_ext [iblk, idx t]

/-- What the body leaves at an index of the result's block. -/
theorem block_at (t : Fin cfg0.N) (q : Fin 25) (r l : Fin 128) : outsAt0 m c t (ix3 q r l) = memories m c (ix3 q (text t r) l) := by
  have h : slotOf (outsAt0 m c t) q r (slotNo l) = entity gateSum (tableU m c) (tableV m c) (tableW m c) (sentencesOf m c)
      (flagsOf m c) (keysOf m c) (text t r) (entityNo q (slotNo l)) := by
    rw [block_chain]
    refine (chain_at _ _ _ _ _ _ q r (slotNo l) 20).trans (slot_congr _ ?_ ?_ ?_ ?_ ?_ (fun n => block_flags m c t (stepNo n) r) 20)
    · exact funext₂ fun e d => block_tableU m c t e d
    · exact funext₂ fun e d => block_tableV m c t e d
    · exact funext₂ fun e d => block_tableW m c t e d
    · exact funext₂ fun n d => block_sentences m c t (stepNo n) r d
    · rw [keys_same]
      exact funext fun d => block_keys m c t q r (slotNo l) d
  have h' := congrFun h (entryNo l)
  unfold slotOf at h'
  rw [lane_split] at h'
  exact h'

/-- The result array of the region after the run. -/
theorem region_result : (dats m 0 c).arrAt 6 (cfgs 0).N = memories m c := by
  refine (dats m 0 c).arrAt_eq_of_covers 6 _ (by decide +kernel) fun t _ y => ?_
  have h : (win0_6.blk t).view.emb y = ix3 (y 0) (text t (y 1)) (y 2) := by
    blk_ext [idx t, text]
  blk_simp
  rw [after0_6, h]
  exact (congrArg (outsAt0 m c t) (eq_ix3 y)).trans (block_at m c t (y 0) (y 1) (y 2))

end Cert.Memory

end
-- ==== Proof.Result.lean ====
/- The kernel's run: the result after the host's last operations, and the arguments unchanged. -/
module

public import proofs.«01_k».proof.Proof.Array

@[expose] public section

set_option maxRecDepth 16384

noncomputable section

namespace Cert.Memory

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The kernel's result: every entity's memory after the twenty sentences. -/
def result : FVec Ideal S1024x100x32 .f32 := fun i =>
  entity gateSum (tableU m c) (tableV m c) (tableW m c) (sentencesOf m c) (flagsOf m c) (keysOf m c) (i 0) (i 1) (i 2)

/-- The region's result array taken apart and put in the order of the entities. -/
def reordered (X : FVec Ideal S25x1024x128 .f32) : FVec Ideal S1024x100x32 .f32 :=
  shapeCast S1024x100x32 (transpose S1024x25x4x32 [1, 0, 2, 3] (shapeCast S25x1024x4x32 X Gen.shapeCasts_S25x1024x128_S25x1024x4x32)
    Gen.transposes_S25x1024x4x32_S1024x25x4x32_1_0_2_3) Gen.shapeCasts_S1024x25x4x32_S1024x100x32

/-- Entry `d` of entity `k` stands at lane `k % 4 * 32 + d` of row `k / 4`. -/
theorem reordered_at (X : FVec Ideal S25x1024x128 .f32) (b : Fin 1024) (k : Fin 100) (d : Fin 32) :
    reordered X (ix3 b k d) = X (ix3 ⟨k / 4, by omega⟩ b (lane ⟨k % 4, by omega⟩ d)) := by
  pointwise [reordered, lane]

/-- In that order the region's memories are the result. -/
theorem reordered_memories : reordered (memories m c) = result m c := by
  funext i
  obtain ⟨b, k, d, rfl⟩ : ∃ (b : Fin 1024) (k : Fin 100) (d : Fin 32), i = ix3 b k d := ⟨i 0, i 1, i 2, eq_ix3 i⟩
  rw [reordered_at]
  have hk : entityNo ⟨k / 4, by omega⟩ (slotNo (lane ⟨k % 4, by omega⟩ d)) = k := by
    apply Fin.ext
    simp only [entityNo, slotNo, lane]
    omega
  have hd : entryNo (lane ⟨k % 4, by omega⟩ d) = d := by
    apply Fin.ext
    simp only [entryNo, lane]
    omega
  exact congrArg₂ (fun k d => entity gateSum (tableU m c) (tableV m c) (tableW m c) (sentencesOf m c) (flagsOf m c) (keysOf m c) b k d)
    hk hd

/-- What the lines after the region leave in the result's buffer. -/
theorem tail_result : Pipeline.afterTail₀ cfgs (dats m) 0 (V0 m) [hostOps1] c main_v10 = result m c := by
  have h : Pipeline.withArrays (cfgs 0).spec c (V0 m c) (fun w => (dats m 0 c).arrAt w (cfgs 0).N) (Proc.tc.devRef main_v7) =
      memories m c :=
    (Pipeline.withArrays_arr _ launch0.win.arr_inj c (V0 m c) (fun w => (dats m 0 c).arrAt w (cfgs 0).N) 6).trans (region_result m c)
  unfold Pipeline.afterTail₀
  show StableHlo.after hostOps1 _ _ = _
  after_results
  rw [h]
  exact reordered_memories m c

/-- Every run of the kernel ends with the result in its buffer and the arguments unchanged. -/
theorem kernel_run (ρ : Dev nD → PrngReg) : θ_run defs (onTc (τ := τ) (main (F := Ideal))) ⟨m, fun _ => 0, ρ⟩ (fun r => ∀ c : Dev nD,
    r.2.mem ((c.tc : Thread nD τ).loc main_v10) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun _ h c => ⟨h.1 c, h.2 c⟩)
    (θ_run_and (Q₁ := fun r => ∀ c : Dev nD, r.2.mem ((c.tc : Thread nD τ).loc main_v10) = result m c)
      ((θ_run defs _ _).mono (fun _ h c =>
        ((h c).2 main_v10 (Pipeline.mem_restRefs_of main_v10 (by decide) (by decide))).trans (tail_result m c)) (run_main m ρ))
      (unchanged m ρ))

end Cert.Memory

end
-- ==== Proof.Reference.lean ====
/- The reference: what one trip of its loop does to an entity's memory, and its result after the twenty trips. -/
module

public import proofs.«01_k».proof.Proof.Cell
public import proofs.«01_k».proof.Proof.Gen.ReferenceIdeal.StepRun
public import Idealize.ShloMosaic.Lib.Claim

@[expose] public section

set_option maxRecDepth 16384

noncomputable section

namespace Cert.Memory

open Idealize.ShloMosaic Idealize.ShloMosaic.TcCoe Idealize.SL.Sem
open Cert.ReferenceIdeal Cert.ReferenceIdeal.Step

/-- Where trip `j`'s slice starts, as the loop computes and bounds it. -/
def start (j : ℕ) : ℕ := (min (max (BitVec.ofNat 32 j).toInt 0) ((20 - 1 : ℕ) : ℤ)).toNat

/-- It starts at `j`. -/
theorem start_eq : ∀ j : Fin 20, start j = j := by decide

/-- Trip `j`'s sentences. -/
theorem trip_sentence (j : Fin 20) (s : State Ideal) (b : Fin 1024) (d : Fin 32) : b3 j s (ix2 b d) = s.main_v3_0 (ix3 j b d) := by
  have h : b2 j s (ix3 0 b d) = s.main_v3_0 (ix3 j b d) := by
    unfold b2 Host.dynamicSlice
    refine congrArg s.main_v3_0 (funext fun a => Fin.ext ?_)
    match a with
    | ⟨0, _⟩ => show start j + 0 = j; rw [start_eq]; rfl
    | ⟨1, _⟩ => show (min (max (BitVec.toInt (0#32 : BitVec 32)) 0) ((1024 - 1024 : ℕ) : ℤ)).toNat + b = b; simp
    | ⟨2, _⟩ => show (min (max (BitVec.toInt (0#32 : BitVec 32)) 0) ((32 - 32 : ℕ) : ℤ)).toNat + d = d; simp
  rw [← h]
  pointwise [b3]

/-- Trip `j`'s flags. -/
theorem trip_flag (j : Fin 20) (s : State Ideal) (b : Fin 1024) : b6 j s (ix1 b) = s.main_v3_1 (ix2 j b) := by
  have h : b5 j s (ix2 0 b) = s.main_v3_1 (ix2 j b) := by
    unfold b5 Host.dynamicSlice
    refine congrArg s.main_v3_1 (funext fun a => Fin.ext ?_)
    match a with
    | ⟨0, _⟩ => show start j + 0 = j; rw [start_eq]; rfl
    | ⟨1, _⟩ => show (min (max (BitVec.toInt (0#32 : BitVec 32)) 0) ((1024 - 1024 : ℕ) : ℤ)).toNat + b = b; simp
  rw [← h]
  pointwise [b6]

section Trip

variable (j : Fin 20) (s : State Ideal) (b : Fin 1024) (k : Fin 100)

/-- The sentence of trip `j`. -/
def tripX : Row := fun d => s.main_v3_0 (ix3 j b d)

/-- The entity's memory before the trip. -/
def tripH : Row := fun d => s.main_v3_7 (ix3 b k d)

/-- The entity's key. -/
def tripK : Row := fun d => s.main_v3_2 (ix3 b k d)

/-- The gate of trip `j`. -/
theorem trip_gate : b23 j s (ix2 b k) = gateApart (tripX j s b) (tripK s b k) (tripH s b k) := by
  have hs : b15 j s (ix2 b k) = ∑ d, (tripX j s b d * tripH s b k d + tripX j s b d * tripK s b k d) := by
    pointwise [b15, b13, b9, b8, b7, b12, b11, b10, b14, trip_sentence]
    rfl
  pointwise [b23, b22, b21, b20, b19, b18, b17, b16, hs]
  rfl

/-- The candidate of trip `j`. -/
theorem trip_candidate (d : Fin 32) : b33 j s (ix3 b k d) = candidate (fun e d => s.main_v3_3 (ix2 e d))
    (fun e d => s.main_v3_4 (ix2 e d)) (fun e d => s.main_v3_5 (ix2 e d)) (tripX j s b) (tripK s b k) (tripH s b k) d := by
  have hU : b24 j s (ix3 b k d) = through (tripH s b k) (fun e d => s.main_v3_3 (ix2 e d)) d := by
    pointwise [b24]
    rfl
  have hV : b25 j s (ix3 b k d) = through (tripK s b k) (fun e d => s.main_v3_4 (ix2 e d)) d := by
    pointwise [b25]
    rfl
  have hW : b27 j s (ix2 b d) = through (tripX j s b) (fun e d => s.main_v3_5 (ix2 e d)) d := by
    pointwise [b27, trip_sentence]
    rfl
  pointwise [b33, b32, b31, b30, b29, b28, b26, hU, hV, hW]
  rfl

/-- The moved memory of trip `j`. -/
theorem trip_moved (d : Fin 32) : b37 j s (ix3 b k d) = moved (fun e d => s.main_v3_3 (ix2 e d)) (fun e d => s.main_v3_4 (ix2 e d))
    (fun e d => s.main_v3_5 (ix2 e d)) (tripX j s b) (tripK s b k) (tripH s b k)
    (gateApart (tripX j s b) (tripK s b k) (tripH s b k)) d := by
  have hg := trip_gate j s b k
  have hc := trip_candidate j s b k d
  pointwise [b37, b36, b35, b34, hg, hc]
  rfl

/-- The entity's memory after trip `j`. -/
theorem trip_at (d : Fin 32) : b50 j s (ix3 b k d) = stepWith gateApart (fun e d => s.main_v3_3 (ix2 e d))
    (fun e d => s.main_v3_4 (ix2 e d)) (fun e d => s.main_v3_5 (ix2 e d)) (tripX j s b) (tripK s b k)
    (s.main_v3_1 (ix2 j b) = 1#1) (tripH s b k) d := by
  have hm := trip_moved j s b k d
  have hs : b40 j s (ix2 b k) = ∑ e, b37 j s (ix3 b k e) * b37 j s (ix3 b k e) := by
    pointwise [b40, b39, b38]
  have hs' := hs.trans (Finset.sum_congr rfl fun e _ => congrArg₂ (· * ·) (trip_moved j s b k e) (trip_moved j s b k e))
  have hu : b47 j s (ix3 b k d) = unit (moved (fun e d => s.main_v3_3 (ix2 e d)) (fun e d => s.main_v3_4 (ix2 e d))
      (fun e d => s.main_v3_5 (ix2 e d)) (tripX j s b) (tripK s b k) (tripH s b k)
      (gateApart (tripX j s b) (tripK s b k) (tripH s b k))) d := by
    pointwise [b47, b46, b45, b44, b43, b42, b41, hs', hm]
    rfl
  have ho : b49 j s (ix3 b k d) = s.main_v3_1 (ix2 j b) := by
    pointwise [b49, b48, trip_flag]
  show Scalar.select (b49 j s (ix3 b k d)) (b47 j s (ix3 b k d)) (s.main_v3_7 (ix3 b k d)) = _
  rw [hu, ho]
  rfl

end Trip

section Trips

variable (E : FVec Ideal S1024x20x32 .f32) (M : IVec S1024x20 1) (K : FVec Ideal S1024x100x32 .f32) (U V W : FVec Ideal S32x32 .f32)

/-- The states of the loop, one after the other. -/
def trips : ℕ → State Ideal
  | 0 => init K U V W E M
  | n + 1 => step n (trips n)

/-- What no trip changes. -/
theorem trips_same (n : ℕ) : (trips E M K U V W n).main_v3_0 = A_main_v1 E M ∧ (trips E M K U V W n).main_v3_1 = A_main_v2 E M ∧
    (trips E M K U V W n).main_v3_2 = K ∧ (trips E M K U V W n).main_v3_3 = U ∧ (trips E M K U V W n).main_v3_4 = V ∧
    (trips E M K U V W n).main_v3_5 = W := by
  induction n with
  | zero => exact ⟨rfl, rfl, rfl, rfl, rfl, rfl⟩
  | succ n ih => exact ih

/-- The sentences in the order of the trips. -/
theorem first_sentences (n : Fin 20) (b : Fin 1024) (d : Fin 32) : A_main_v1 (F := Ideal) E M (ix3 n b d) = E (ix3 b n d) := by
  pointwise [A_main_v1]

/-- The flags in the order of the trips. -/
theorem first_flags (n : Fin 20) (b : Fin 1024) : A_main_v2 (F := Ideal) E M (ix2 n b) = M (ix2 b n) := by
  pointwise [A_main_v2]

/-- An entity's memory after `n` trips. -/
theorem trips_at (b : Fin 1024) (k : Fin 100) (n : ℕ) (hn : n ≤ 20) :
    tripH (trips E M K U V W n) b k = slot gateApart (fun e d => U (ix2 e d)) (fun e d => V (ix2 e d)) (fun e d => W (ix2 e d))
      (fun n d => E (ix3 b (stepNo n) d)) (fun d => K (ix3 b k d)) (fun n => M (ix2 b (stepNo n)) = 1#1) n := by
  induction n with
  | zero =>
    rw [slot_zero]
    funext d
    show K_main_v0 (ix3 b k d) = 0
    pointwise [K_main_v0, K_main_cst]
  | succ n ih =>
    have hj : stepNo n = ⟨n, by omega⟩ := Fin.ext (Nat.mod_eq_of_lt (by omega))
    obtain ⟨h0, h1, h2, h3, h4, h5⟩ := trips_same E M K U V W n
    have h := funext fun d => trip_at ⟨n, by omega⟩ (trips E M K U V W n) b k d
    have hx : tripX ⟨n, by omega⟩ (trips E M K U V W n) b = fun d => E (ix3 b (stepNo n) d) := by
      unfold tripX
      rw [h0, hj]
      exact funext fun d => first_sentences E M _ b d
    have hk : tripK (trips E M K U V W n) b k = fun d => K (ix3 b k d) := by
      unfold tripK
      rw [h2]
    rw [slot_succ, ← ih (by omega), ← hx, ← hk]
    refine h.trans ?_
    have hf : (trips E M K U V W n).main_v3_1 (ix2 ⟨n, by omega⟩ b) = M (ix2 b (stepNo n)) := by
      rw [h1, hj]
      exact first_flags E M _ b
    rw [h3, h4, h5]
    exact funext fun d => if_congr (by rw [hf]) rfl rfl

/-- The reference's result at an index. -/
theorem reference_at (b : Fin 1024) (k : Fin 100) (d : Fin 32) : (trips E M K U V W 20).main_v3_7 (ix3 b k d) =
    entity gateApart (fun e d => U (ix2 e d)) (fun e d => V (ix2 e d)) (fun e d => W (ix2 e d)) (fun b n d => E (ix3 b n d))
      (fun b n => M (ix2 b n)) (fun b k d => K (ix3 b k d)) b k d :=
  congrFun (trips_at E M K U V W b k 20 le_rfl) d

end Trips

end Cert.Memory

end
-- ==== Proof.Equation.lean ====
/- The value claim: with finite sentences the kernel and the reference leave the same array. -/
module

public import proofs.«01_k».proof.Defs
public import proofs.«01_k».proof.Proof.Result
public import proofs.«01_k».proof.Proof.Reference

@[expose] public section

set_option maxRecDepth 16384

noncomputable section

namespace Cert.Memory

open Idealize.ShloMosaic Idealize.ShloMosaic.TcCoe Idealize.SL.Sem

/-- The shape relation the precondition states. -/
theorem pre_facts : Cert.Pre_finite_sentences.Facts := ⟨by decide⟩

/-- A number whose absolute value is below an infinity is real. -/
theorem real_of_below {x t : EReal} (h : max x (-x) < t) : ∃ r : ℝ, x = r := by
  induction x using EReal.rec with
  | coe r => exact ⟨r, rfl⟩
  | bot => simp at h
  | top => simp at h

/-- Where the precondition holds every sentence is real. -/
theorem finite_of_pre [Cert.Pre_finite_sentences.Facts] (E : FVec Ideal Cert.Pre_finite_sentences.S1024x20x32 .f32)
    (M : IVec Cert.Pre_finite_sentences.S1024x20 1) (K : FVec Ideal Cert.Pre_finite_sentences.S1024x100x32 .f32)
    (U V W : FVec Ideal Cert.Pre_finite_sentences.S32x32 .f32) (h : Cert.Pre_finite_sentences.fn E M K U V W = fun _ => 1#1)
    (b : Fin 1024) (n : Fin 20) : Finite fun d => E (ix3 b n d) := by
  intro d
  have h' := congrFun h (ix3 b n d)
  revert h'
  pointwise [Cert.Pre_finite_sentences.fn]
  intro h'
  have hlt : FloatOps.absf (E (ix3 b n d)) < Ideal.ofBits FTy.f32 2139095040#32 := by
    by_contra hn
    rw [decide_eq_false hn] at h'
    exact absurd h' (by decide)
  exact real_of_below hlt

/-- The memories of the kernel's arguments, in the reference's form, where the sentences are real. -/
theorem result_at (m : (ℓ : Loc Cert.KernelIdeal.nD Cert.KernelIdeal.τ Cert.KernelIdeal.sig) → Buf (Elt Ideal) ℓ)
    (c : Dev Cert.KernelIdeal.nD) (hE : ∀ b n, Finite (sentencesOf m c b n)) (b : Fin 1024) (k : Fin 100) (d : Fin 32) :
    result m c (ix3 b k d) =
      entity gateApart (tableU m c) (tableV m c) (tableW m c) (sentencesOf m c) (flagsOf m c) (keysOf m c) b k d :=
  congrFun (entity_eq (tableU m c) (tableV m c) (tableW m c) (sentencesOf m c) (flagsOf m c) (keysOf m c) hE b k) d

/-- The kernel and the reference, run on the same arguments with finite sentences, leave the same result and change no
    argument. -/
theorem equation [Cert.Pre_finite_sentences.Facts] :
    Cert.algebraic_KernelIdeal_ReferenceIdeal_pre_finite_sentences (hKernelIdeal := Cert.KernelIdeal.Gen.facts)
      (hReferenceIdeal := Cert.ReferenceIdeal.Gen.facts) := by
  intro m g m' g' hpre hagree
  refine ⟨fun c => result m c, kernel_run m g, ?_⟩
  have hrun := Cert.ReferenceIdeal.StepRun.run_iter (F := Ideal) m' g'
    (fun c => trips (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)))
    (fun _ => rfl) (fun _ _ => rfl)
  refine (θ_run _ _ _).mono (fun _ h c => ⟨(h c).1.trans ?_, (h c).2⟩) hrun
  obtain ⟨h0, h1, h2, h3, h4, h5⟩ := hagree c
  beta_reduce
  rw [h0, h1, h2, h3, h4, h5]
  funext i
  obtain ⟨b, k, d, rfl⟩ : ∃ (b : Fin 1024) (k : Fin 100) (d : Fin 32), i = ix3 b k d := ⟨i 0, i 1, i 2, eq_ix3 i⟩
  exact (reference_at _ _ _ _ _ _ b k d).trans
    (result_at m c (fun b n => finite_of_pre _ _ _ _ _ _ (hpre c) b n) b k d).symm

end Cert.Memory

end
-- ==== Proof.lean ====
/- The whole claim. The frame of the kernel and of its idealization is the generated one, the reference's is read off its
   run, and the equation of the results is `Cert.Memory.equation` (Proof/Equation.lean). -/
module

public import proofs.«01_k».proof.Defs
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged and, declaring no semaphore, with every counter at zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m ρ)

/-- Every claim: the two kernels and the reference run to the end and leave their arguments as they were (with the
    precondition and without it), the idealization has the kernel's operations, and with finite sentences the kernel's result
    is the reference's. -/
theorem claim : Cert.Claim :=
  ⟨Cert.Kernel.Gen.facts, Cert.KernelIdeal.Gen.facts, Cert.ReferenceIdeal.Gen.facts, Cert.Memory.pre_facts,
    fun m ρ _ => Cert.Kernel.Gen.frame m ρ, fun m ρ _ => Cert.KernelIdeal.Gen.frame m ρ,
    fun m ρ _ => Cert.KernelIdeal.Gen.frame m ρ, fun m ρ _ => frame_reference m ρ, fun m ρ _ => frame_reference m ρ, trivial,
    @Cert.Memory.equation Cert.Memory.pre_facts⟩

end Cert.Proof

end
